-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x128x128 : Shape := ⟨4, ![32, 64, 128, 128]⟩
abbrev S2048x128x128 : Shape := ⟨3, ![2048, 128, 128]⟩
abbrev S2048x256x256 : Shape := ⟨3, ![2048, 256, 256]⟩
abbrev S32x64x256x256 : Shape := ⟨4, ![32, 64, 256, 256]⟩
abbrev S64x128x128 : Shape := ⟨3, ![64, 128, 128]⟩
abbrev S64x256x256 : Shape := ⟨3, ![64, 256, 256]⟩
abbrev S64x128x256 : Shape := ⟨3, ![64, 128, 256]⟩
abbrev S64x128x128x1 : Shape := ⟨4, ![64, 128, 128, 1]⟩
abbrev S64x128x1x256 : Shape := ⟨4, ![64, 128, 1, 256]⟩
abbrev S64x128x2x256 : Shape := ⟨4, ![64, 128, 2, 256]⟩

abbrev nBuf : Space → Nat
  | .hbm => 4
  | .vmem => 4
  | .smem => 0
  | _ => 0

abbrev bufTy : (tb : Table) → Fin (tcTables nBuf tb) → BufTy
  | .hbm, ⟨0, _⟩ => ⟨S32x64x128x128, .f32⟩
  | .hbm, ⟨1, _⟩ => ⟨S2048x128x128, .f32⟩
  | .hbm, ⟨2, _⟩ => ⟨S2048x256x256, .f32⟩
  | .hbm, ⟨3, _⟩ => ⟨S32x64x256x256, .f32⟩
  | .local _ .vmem, ⟨0, _⟩ => ⟨S64x128x128, .f32⟩
  | .local _ .vmem, ⟨1, _⟩ => ⟨S64x128x128, .f32⟩
  | .local _ .vmem, ⟨2, _⟩ => ⟨S64x256x256, .f32⟩
  | .local _ .vmem, ⟨3, _⟩ => ⟨S64x256x256, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x64x128x128 : Shape := ⟨4, ![32, 64, 128, 128]⟩
abbrev S_ : Shape := ⟨0, ![]⟩
abbrev S32x64x256x256 : Shape := ⟨4, ![32, 64, 256, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S128x128x2 : Shape := ⟨3, ![128, 128, 2]⟩

abbrev nBuf : Space → Nat
  | .hbm => 39
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S_, .f32⟩
  | .hbm, ⟨2, _⟩ => ⟨S32x64x256x256, .f32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S_, .i32⟩
  | .hbm, ⟨16, _⟩ => ⟨S128, .i32⟩
  | .hbm, ⟨17, _⟩ => ⟨S128, .i32⟩
  | .hbm, ⟨18, _⟩ => ⟨S1x128, .i32⟩
  | .hbm, ⟨19, _⟩ => ⟨S_, .i32⟩
  | .hbm, ⟨20, _⟩ => ⟨S128x1, .i32⟩
  | .hbm, ⟨21, _⟩ => ⟨S128x1, .i1⟩
  | .hbm, ⟨22, _⟩ => ⟨S_, .i32⟩
  | .hbm, ⟨23, _⟩ => ⟨S128x1, .i32⟩
  | .hbm, ⟨24, _⟩ => ⟨S128x1, .i32⟩
  | .hbm, ⟨25, _⟩ => ⟨S128x1, .i32⟩
  | .hbm, ⟨26, _⟩ => ⟨S_, .i32⟩
  | .hbm, ⟨27, _⟩ => ⟨S1x128, .i32⟩
  | .hbm, ⟨28, _⟩ => ⟨S1x128, .i1⟩
  | .hbm, ⟨29, _⟩ => ⟨S_, .i32⟩
  | .hbm, ⟨30, _⟩ => ⟨S1x128, .i32⟩
  | .hbm, ⟨31, _⟩ => ⟨S1x128, .i32⟩
  | .hbm, ⟨32, _⟩ => ⟨S1x128, .i32⟩
  | .hbm, ⟨33, _⟩ => ⟨S128x128, .i32⟩
  | .hbm, ⟨34, _⟩ => ⟨S128x128, .i32⟩
  | .hbm, ⟨35, _⟩ => ⟨S128x128x1, .i32⟩
  | .hbm, ⟨36, _⟩ => ⟨S128x128x1, .i32⟩
  | .hbm, ⟨37, _⟩ => ⟨S128x128x2, .i32⟩
  | .hbm, ⟨38, _⟩ => ⟨S32x64x256x256, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_3 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_5 : Ref sig .tc := ⟨.hbm, 26, rfl⟩
abbrev main_v18 : Ref sig .tc := ⟨.hbm, 27, rfl⟩
abbrev main_v19 : Ref sig .tc := ⟨.hbm, 28, rfl⟩
abbrev main_c_6 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.Spread.lean ====
/-
  THE RESULT IN PLAIN WORDS (hand-written): an array of images of 128 by 128 spread to images of 256 by 256. An element in
  row `r` and lane `l` goes to row `2 * r` and lane `2 * l`, and every other element of the result is one fixed element `z`.

  It is stated twice: `spread` of a stack of images with one leading axis, as the kernel works on it, and `upsampled` of the
  program's own array with a batch axis and a channel axis. The two are the same up to merging the two leading axes
  (`upsampled_eq`), since images are not mixed with one another.
-/
module

public import Idealize.ShloMosaic.Lib.PointwiseCore

@[expose] public section

set_option maxRecDepth 16384

noncomputable section

open Idealize.ShloMosaic

namespace Cert.Upsample

/-- A stack of `k` images spread: the elements at the even rows and lanes, `z` elsewhere. -/
def spread {α : Type} {k : Nat} (z : α) (x : (⟨3, ![k, 128, 128]⟩ : Shape).Idx → α) : (⟨3, ![k, 256, 256]⟩ : Shape).Idx → α :=
  fun i =>
    have h1 : (i 1).val < 256 := (i 1).isLt
    have h2 : (i 2).val < 256 := (i 2).isLt
    if (i 1).val % 2 = 0 ∧ (i 2).val % 2 = 0 then x (ix3 (i 0) ⟨(i 1).val / 2, by omega⟩ ⟨(i 2).val / 2, by omega⟩) else z

/-- `spread` at an index given by its coordinates. -/
theorem spread_apply {α : Type} {k : Nat} (z : α) (x : (⟨3, ![k, 128, 128]⟩ : Shape).Idx → α) (n : Fin k) (r l : Fin 256) :
    spread z x (ix3 n r l) =
      if r.val % 2 = 0 ∧ l.val % 2 = 0 then x (ix3 n ⟨r.val / 2, by omega⟩ ⟨l.val / 2, by omega⟩) else z := rfl

/-- The program's array, 32 by 64 images, spread. -/
def upsampled {α : Type} (z : α) (x : (⟨4, ![32, 64, 128, 128]⟩ : Shape).Idx → α) : (⟨4, ![32, 64, 256, 256]⟩ : Shape).Idx → α :=
  fun i =>
    have h2 : (i 2).val < 256 := (i 2).isLt
    have h3 : (i 3).val < 256 := (i 3).isLt
    if (i 2).val % 2 = 0 ∧ (i 3).val % 2 = 0 then x (ix4 (i 0) (i 1) ⟨(i 2).val / 2, by omega⟩ ⟨(i 3).val / 2, by omega⟩) else z

/-- `upsampled` at an index given by its coordinates. -/
theorem upsampled_apply {α : Type} (z : α) (x : (⟨4, ![32, 64, 128, 128]⟩ : Shape).Idx → α) (b : Fin 32) (c : Fin 64) (r l : Fin 256) :
    upsampled z x (ix4 b c r l) =
      if r.val % 2 = 0 ∧ l.val % 2 = 0 then x (ix4 b c ⟨r.val / 2, by omega⟩ ⟨l.val / 2, by omega⟩) else z := rfl

/-- Merging batch and channel into one axis, spreading, and splitting that axis again is spreading. -/
theorem upsampled_eq {α : Type} (z : α) (x : (⟨4, ![32, 64, 128, 128]⟩ : Shape).Idx → α)
    (h : Shape.ShapeCasts ⟨4, ![32, 64, 128, 128]⟩ ⟨3, ![2048, 128, 128]⟩) (h' : Shape.ShapeCasts ⟨3, ![2048, 256, 256]⟩ ⟨4, ![32, 64, 256, 256]⟩) :
    shapeCast ⟨4, ![32, 64, 256, 256]⟩ (spread z (shapeCast ⟨3, ![2048, 128, 128]⟩ x h)) h' = upsampled z x := by
  funext j
  obtain ⟨b, c, r, l, rfl⟩ : ∃ (b : Fin 32) (c : Fin 64) (r l : Fin 256), j = ix4 b c r l := ⟨j 0, j 1, j 2, j 3, eq_ix4 j⟩
  rw [upsampled_apply]
  pointwise [spread_apply]

end Cert.Upsample

end
-- ==== Proof.Block.lean ====
/-
  WHAT ONE BLOCK COMPUTES (hand-written). The kernel loads a block of 64 images of 128 by 128 elements and stores a block
  of 64 images of 256 by 256. Here the stored value is read at one position:

    * in an even row and an even lane it is the loaded element of half that row and half that lane;
    * everywhere else it is the constant zero.

  The kernel finds "half the lane" with a division of lane numbers that it corrects for negative operands, and then looks
  the element up along the lanes. It does so for lanes 0 to 127 and for lanes 128 to 255 apart, and joins the two parts.
  The lane numbers are the words of 0 to 255, so what the correction does to them is decided on each of the 256
  (`half_word`, and the parity in `rows_apply`). The rest is where an element goes when arrays are cut, joined and reshaped.

  Everything holds for any float arithmetic: the kernel moves elements and computes with none of them.
-/
module

public import proofs.«01_k».proof.Proof.Gen.KernelIdeal.Frame
public import proofs.«01_k».proof.Proof.Spread

@[expose] public section

set_option maxRecDepth 16384

noncomputable section

open Idealize.ShloMosaic Idealize.ShloMosaic.TcCoe Idealize.SL.Sem

namespace Cert.KernelIdeal.Upsample

open Cert.KernelIdeal Cert.KernelIdeal.Gen Cert.Upsample

variable {F : FTy → Type} [FloatOps F]

/-- The word zero of the kernel's constant. -/
abbrev zero : F .f32 := Scalar.ofBits .f32 0x00000000#32

/-- The lane index that the kernel computes is half the lane. -/
theorem half_word (n : Fin 64) (r : Fin 128) (l : Fin 256) : k0_pay3 (ix3 n r l) = BitVec.ofNat 32 (l.val / 2) := by
  pointwise [k0_pay3]
  clear n r
  revert l
  decide +kernel

/-- An index word below 128 is not negative, so the wrap of negative indices leaves it; and as a lane it is itself. -/
theorem wrapped_lane (p : Nat) (hp : p < 128) :
    (Scalar.select (IntOp.cmpi .slt (BitVec.ofNat 32 p) 0#32) (IntOp.addi (BitVec.ofNat 32 p) 128#32) (BitVec.ofNat 32 p)).toNat % 128 = p := by
  have key : ∀ p : Fin 128, (Scalar.select (IntOp.cmpi .slt (BitVec.ofNat 32 p.val) 0#32)
      (IntOp.addi (BitVec.ofNat 32 p.val) 128#32) (BitVec.ofNat 32 p.val)).toNat % 128 = p.val := by decide +kernel
  exact key ⟨p, hp⟩

/-- The lookup's first part: lane `l` holds the element at half of `l`. -/
theorem left_apply (x : Vec F S64x128x128 .f32) (n : Fin 64) (r : Fin 128) (l : Fin 128) :
    k0_pay4 x (ix3 n r l) = x (ix3 n r ⟨l.val / 2, by omega⟩) := by
  pointwise [k0_pay4, k0_pay2, dynamicGather]
  refine congrArg x (funext fun b => ?_)
  match b with
  | ⟨0, _⟩ => rfl
  | ⟨1, _⟩ => rfl
  | ⟨2, _⟩ =>
    refine Fin.ext ?_
    show (Scalar.select _ _ _ : BitVec 32).toNat % 128 = l.val / 2
    rw [half_word]
    exact wrapped_lane (l.val / 2) (by omega)

/-- The lookup's second part: lane `l` holds the element at half of `128 + l`. -/
theorem right_apply (x : Vec F S64x128x128 .f32) (n : Fin 64) (r : Fin 128) (l : Fin 128) :
    k0_pay5 x (ix3 n r l) = x (ix3 n r ⟨(128 + l.val) / 2, by omega⟩) := by
  pointwise [k0_pay5, k0_pay2, dynamicGather]
  refine congrArg x (funext fun b => ?_)
  match b with
  | ⟨0, _⟩ => rfl
  | ⟨1, _⟩ => rfl
  | ⟨2, _⟩ =>
    refine Fin.ext ?_
    show (Scalar.select _ _ _ : BitVec 32).toNat % 128 = (128 + l.val) / 2
    rw [half_word]
    exact wrapped_lane ((128 + l.val) / 2) (by omega)

/-- The stored value in terms of the two parts `a` and `b`: their join in the even rows and lanes, zero elsewhere. -/
theorem rows_apply (a b : FVec F S64x128x128 .f32) (n : Fin 64) (r l : Fin 256) :
    k0_pay1 (iota .tc S64x128x256 32 [2] iota_S64x128x256_d2_w32) a b (ix3 n r l) =
      if r.val % 2 = 0 ∧ l.val % 2 = 0 then
        if h : l.val < 128 then a (ix3 n ⟨r.val / 2, by omega⟩ ⟨l.val, h⟩) else b (ix3 n ⟨r.val / 2, by omega⟩ ⟨l.val - 128, by omega⟩)
      else zero := by
  pointwise [k0_pay1]
  generalize hw : IntOp.cmpi .eq (Scalar.select _ _ _) 0#32 = w
  have e : w = BitVec.ofBool (decide (l.val % 2 = 0)) := by
    rw [← hw]
    clear hw
    revert l
    decide +kernel
  rw [e]
  by_cases hr : r.val % 2 = 0 <;> by_cases hl : l.val % 2 = 0 <;> simp [hr, hl, Scalar.select]

/-- The block that the kernel stores is the block that it loads, spread. -/
theorem block_eq (x : Vec F S64x128x128 .f32) :
    k0_pay1 (iota .tc S64x128x256 32 [2] iota_S64x128x256_d2_w32) (k0_pay4 x) (k0_pay5 x) = spread zero x := by
  funext j
  obtain ⟨n, r, l, rfl⟩ : ∃ (n : Fin 64) (r l : Fin 256), j = ix3 n r l := ⟨j 0, j 1, j 2, eq_ix3 j⟩
  rw [rows_apply, spread_apply]
  refine if_congr Iff.rfl ?_ rfl
  split
  · rw [left_apply]
  · rename_i h
    rw [right_apply]
    have e : (⟨(128 + (l.val - 128)) / 2, by omega⟩ : Fin 128) = ⟨l.val / 2, by omega⟩ := Fin.ext (by dsimp only; omega)
    exact congrArg (fun q => x (ix3 n _ q)) e

end Cert.KernelIdeal.Upsample

end
-- ==== Proof.KernelValue.lean ====
/-
  THE KERNEL'S RESULT (hand-written). The kernel merges batch and channel to a stack of 2048 images, runs over the stack in
  32 blocks of 64 images, and splits the stack's axis again.

    * Point `t` of the grid reads images `64 * t` to `64 * t + 63` and writes the images of the same numbers (`places`), so
      what it writes is its block of the whole stack spread (`stored_eq`).
    * The 32 blocks fill the stack, so the array that the grid leaves is the stack spread (`stack_eq`).
    * With the two reshapes around it the program's result is its argument upsampled (`result_eq`, `run`).
-/
module

public import proofs.«01_k».proof.Proof.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Upsample

open Cert.KernelIdeal Cert.KernelIdeal.Gen Cert.Upsample

variable {F : FTy → Type} [FloatOps F]
variable (m : (ℓ : Loc nD τ sig) → Buf (Elt F) ℓ) (ρ : Dev nD → PrngReg)

/-- Both windows of point `t` are block `t` along the stack, whole along rows and lanes. -/
theorem places : ∀ t : Fin grid0.N, (win0_0.index t 0 = t.val ∧ win0_0.index t 1 = 0 ∧ win0_0.index t 2 = 0)
    ∧ (win0_1.index t 0 = t.val ∧ win0_1.index t 1 = 0 ∧ win0_1.index t 2 = 0) := by
  decide +kernel

/-- The stack of images that the region finds. -/
abbrev stack (c : Dev nD) : (⟨3, ![2048, 128, 128]⟩ : Shape).Idx → F .f32 := V m c main_call0_v0

/-- The offsets at which the body loads and stores are zero on every axis. -/
theorem hz : (![0, 0, 0] : Fin 3 → Nat) = fun _ => 0 := funext fun a => by fin_cases a <;> rfl

/-- What the body leaves in the result's buffer is the block it was given, spread. -/
theorem out_eq (x : Vec F S64x128x128 .f32) : out0_1 x = spread zero x := by
  unfold out0_1
  rw [View.canon_unit_zero hz, View.ld_unit_zero hz]
  exact block_eq x

/-- Where an element of point `t`'s input block stands in the stack. -/
theorem in_place (t : Fin cfg0.N) (n : Fin 64) (r l : Fin 128) (h : 64 * t.val + n.val < 2048) :
    (win0_0.blk t).view.emb (ix3 n r l) = ix3 ⟨64 * t.val + n.val, h⟩ r l := by
  blk_ext [(places t).1.1, (places t).1.2.1, (places t).1.2.2]

/-- Where an element of point `t`'s result block stands in the result stack. -/
theorem out_place (t : Fin cfg0.N) (n : Fin 64) (r l : Fin 256) (h : 64 * t.val + n.val < 2048) :
    (win0_1.blk t).view.emb (ix3 n r l) = ix3 ⟨64 * t.val + n.val, h⟩ r l := by
  blk_ext [(places t).2.1, (places t).2.2.1, (places t).2.2.2]

/-- The array that the grid leaves is the stack spread. -/
theorem stack_eq (c : Dev nD) : (dats m 0 c).arrAt 1 cfg0.N = (spread zero (stack m c) : (⟨3, ![2048, 256, 256]⟩ : Shape).Idx → F .f32) := by
  refine (dats m 0 c).arrAt_eq_of_covers 1 _ (by decide +kernel) fun t hf y => ?_
  have ht : t.val < 32 := (show t.val < grid0.N from t.isLt).trans_eq N_0
  blk_simp
  rw [after0_1, out_eq]
  obtain ⟨n, r, l, rfl⟩ : ∃ (n : Fin 64) (r l : Fin 256), y = ix3 n r l := ⟨y 0, y 1, y 2, eq_ix3 y⟩
  refine Eq.trans ?_ (congrArg (spread zero (stack m c)) (out_place t n r l (by omega)).symm)
  refine (spread_apply zero (iblk m c 0 t) n r l).trans (Eq.trans ?_ (spread_apply zero (stack m c) _ r l).symm)
  refine if_congr Iff.rfl ?_ rfl
  exact congrArg (stack m c) (in_place t n _ _ (by omega))

/-- The stack that the region finds is the argument with batch and channel merged. -/
theorem entry_eq (c : Dev nD) :
    stack m c = shapeCast S2048x128x128 (m ((c : Thread nD τ).loc main_arg0) : S32x64x128x128.Idx → F .f32) shapeCasts_S32x64x128x128_S2048x128x128 := by
  rfl

/-- The program's result is its argument upsampled. -/
theorem result_eq (c : Dev nD) :
    (Pipeline.afterTail₀ cfgs (dats m) 0 (V0 m) [hostOps1] c main_v0 : S32x64x256x256.Idx → F .f32)
      = upsampled zero (m ((c : Thread nD τ).loc main_arg0) : S32x64x128x128.Idx → F .f32) := by
  unfold Pipeline.afterTail₀
  have e : Pipeline.withArrays spec0 c (V0 m c) (fun w => (dats m 0 c).arrAt w cfg0.N) (Proc.devRef .tc main_call0_v1)
      = (spread zero (stack m c) : (⟨3, ![2048, 256, 256]⟩ : Shape).Idx → F .f32) :=
    (Pipeline.withArrays_arr spec0 (by decide) c (V0 m c) _ 1).trans (stack_eq m c)
  rw [← upsampled_eq zero _ shapeCasts_S32x64x128x128_S2048x128x128 shapeCasts_S2048x256x256_S32x64x256x256, ← entry_eq, ← e]
  rfl

/-- The run: the result is the argument upsampled, and the argument is unchanged. -/
theorem run : θ_run defs (onTc (τ := τ) (main (F := F))) ⟨m, fun _ => 0, ρ⟩ fun r => ∀ c : Dev nD,
      (r.2.mem ((c : Thread nD τ).loc main_v0) : S32x64x256x256.Idx → F .f32)
        = upsampled zero (m ((c : Thread nD τ).loc main_arg0) : S32x64x128x128.Idx → F .f32)
      ∧ r.2.mem ((c : Thread nD τ).loc main_arg0) = m ((c : Thread nD τ).loc main_arg0) :=
  (θ_run defs _ _).mono (fun _ h c =>
      ⟨((h c).2 main_v0 (Pipeline.mem_restRefs_of main_v0 (by decide) (by decide))).trans (result_eq m c),
        ((h c).2 main_arg0 (Pipeline.mem_restRefs_of main_arg0 (by decide) (by decide))).trans (W_main_arg0 m (dats m) c)⟩)
    (run_main m ρ)

end Cert.KernelIdeal.Upsample

end
-- ==== Proof.ReferenceValue.lean ====
/-
  THE REFERENCE'S RESULT (hand-written). The reference takes an array of zeros and sets, in every image, the elements at the
  rows 0, 2, …, 254 and the lanes 0, 2, …, 254 to the argument's elements in order. The rows and the lanes stand in one
  array of index words: entry `(p, q, 0)` is the row and entry `(p, q, 1)` the lane of the element `(p, q)` of an image.

    * An update lands on its own image, in the row and the lane that its two words name (`lands`).
    * The words are `2 * p` and `2 * q` (`word`, decided on the 128 positions), so exactly one update lands on an element
      in an even row and an even lane, and none on any other: the result is the argument upsampled (`scatter_eq`, `run`).
-/
module

public import proofs.«01_k».proof.Proof.Gen.ReferenceIdeal.Run
public import proofs.«01_k».proof.Proof.Spread
public import Idealize.ShloMosaic.Lib.Routing.OpsSet
public import Idealize.ShloMosaic.Lib.Routing.OpsPair

@[expose] public section

set_option maxRecDepth 16384

noncomputable section

open Idealize.ShloMosaic Idealize.ShloMosaic.TcCoe Idealize.SL.Sem

namespace Cert.ReferenceIdeal.Upsample

open Cert.ReferenceIdeal Cert.Upsample

variable {F : FTy → Type} [FloatOps F]

/-- The scatter's dimension numbers. -/
abbrev dims [Facts] := scatter_S32x64x256x256_S128x128x2_S32x64x128x128_01_23_23_2

section
variable [Facts]

variable (idx : IVec S128x128x2 32) (b : Fin 32) (c : Fin 64) (p q : Fin 128)

/-- Along the rows an update starts at its first index word, -/
theorem start_row : dims.start (ix4 b c p q) idx 2 = (idx (ix3 p q 0)).toInt := by
  refine (dif_pos (show (2 : Fin 4) ∈ ([2, 3] : List (Fin 4)) by decide)).trans ?_
  refine congrArg (fun j => (idx j).toInt) (funext fun a => ?_)
  match a with
  | ⟨0, _⟩ => rfl
  | ⟨1, _⟩ => rfl
  | ⟨2, _⟩ => rfl
/-- and along the lanes at its second. -/
theorem start_lane : dims.start (ix4 b c p q) idx 3 = (idx (ix3 p q 1)).toInt := by
  refine (dif_pos (show (3 : Fin 4) ∈ ([2, 3] : List (Fin 4)) by decide)).trans ?_
  refine congrArg (fun j => (idx j).toInt) (funext fun a => ?_)
  match a with
  | ⟨0, _⟩ => rfl
  | ⟨1, _⟩ => rfl
  | ⟨2, _⟩ => rfl
/-- No index word moves it along batch or channel: -/
theorem start_batch : dims.start (ix4 b c p q) idx 0 = 0 := rfl
theorem start_channel : dims.start (ix4 b c p q) idx 1 = 0 := rfl
/-- there it stands at its own coordinate, -/
theorem window_batch : dims.window (ix4 b c p q) 0 = b.val := rfl
theorem window_channel : dims.window (ix4 b c p q) 1 = c.val := rfl
/-- and along rows and lanes it is one element. -/
theorem window_row : dims.window (ix4 b c p q) 2 = 0 := rfl
theorem window_lane : dims.window (ix4 b c p q) 3 = 0 := rfl

/-- Where an update lands: on the same image, in the row and the lane that its two index words name. -/
theorem lands (i : S32x64x256x256.Idx) :
    dims.resultIdx? (ix4 b c p q) idx = some i ↔
      b.val = (i 0).val ∧ c.val = (i 1).val ∧ (idx (ix3 p q 0)).toInt = ((i 2).val : Int) ∧ (idx (ix3 p q 1)).toInt = ((i 3).val : Int) := by
  rw [Routing.resultIdx?_eq_some]
  constructor
  · intro h
    have h0 := h 0; have h1 := h 1; have h2 := h 2; have h3 := h 3
    rw [start_batch, window_batch] at h0
    rw [start_channel, window_channel] at h1
    rw [start_row, window_row] at h2
    rw [start_lane, window_lane] at h3
    refine ⟨?_, ?_, ?_, ?_⟩ <;> omega
  · rintro ⟨h0, h1, h2, h3⟩ a
    match a with
    | ⟨0, _⟩ => show dims.start (ix4 b c p q) idx 0 + (dims.window (ix4 b c p q) 0 : Int) = _; rw [start_batch, window_batch]; simpa using h0
    | ⟨1, _⟩ => show dims.start (ix4 b c p q) idx 1 + (dims.window (ix4 b c p q) 1 : Int) = _; rw [start_channel, window_channel]; simpa using h1
    | ⟨2, _⟩ => show dims.start (ix4 b c p q) idx 2 + (dims.window (ix4 b c p q) 2 : Int) = _; rw [start_row, window_row]; simpa using h2
    | ⟨3, _⟩ => show dims.start (ix4 b c p q) idx 3 + (dims.window (ix4 b c p q) 3 : Int) = _; rw [start_lane, window_lane]; simpa using h3

end

/-- Setting the elements at index words that hold twice the position, into an array of one element throughout, is upsampling. -/
theorem scatter_eq [Facts] {α : Type} (z : α) (x0 : S32x64x256x256.Idx → α) (h0 : ∀ i, x0 i = z) (idx : IVec S128x128x2 32)
    (hr : ∀ p q : Fin 128, (idx (ix3 p q 0)).toInt = 2 * (p.val : Int)) (hl : ∀ p q : Fin 128, (idx (ix3 p q 1)).toInt = 2 * (q.val : Int))
    (x : S32x64x128x128.Idx → α) :
    Host.scatter dims (fun _ b => b) x0 idx x = upsampled z x := by
  funext i
  obtain ⟨b, c, r, l, rfl⟩ : ∃ (b : Fin 32) (c : Fin 64) (r l : Fin 256), i = ix4 b c r l := ⟨i 0, i 1, i 2, i 3, eq_ix4 i⟩
  have key : ∀ (b' : Fin 32) (c' : Fin 64) (p q : Fin 128), dims.resultIdx? (ix4 b' c' p q) idx = some (ix4 b c r l) ↔
      b'.val = b.val ∧ c'.val = c.val ∧ 2 * p.val = r.val ∧ 2 * q.val = l.val := fun b' c' p q => by
    rw [lands, hr, hl]
    show b'.val = b.val ∧ c'.val = c.val ∧ 2 * (p.val : Int) = (r.val : Int) ∧ 2 * (q.val : Int) = (l.val : Int) ↔ _
    omega
  rw [upsampled_apply]
  split
  · rename_i h
    refine Routing.scatter_set_hit dims x0 idx x _ _ (fun k hk => ?_) (ix4 b c ⟨r.val / 2, by omega⟩ ⟨l.val / 2, by omega⟩) ((key _ _ _ _).mpr ?_)
    · obtain ⟨b', c', p, q, rfl⟩ : ∃ (b' : Fin 32) (c' : Fin 64) (p q : Fin 128), k = ix4 b' c' p q := ⟨k 0, k 1, k 2, k 3, eq_ix4 k⟩
      obtain ⟨e0, e1, e2, e3⟩ := (key _ _ _ _).mp hk
      obtain rfl : b' = b := Fin.ext e0
      obtain rfl : c' = c := Fin.ext e1
      have ep : p = ⟨r.val / 2, by omega⟩ := Fin.ext (by dsimp only; omega)
      have eq : q = ⟨l.val / 2, by omega⟩ := Fin.ext (by dsimp only; omega)
      rw [ep, eq]
    · dsimp only
      omega
  · rename_i h
    rw [Routing.scatter_set_miss dims x0 idx x _ fun k hk => ?_, h0]
    obtain ⟨b', c', p, q, rfl⟩ : ∃ (b' : Fin 32) (c' : Fin 64) (p q : Fin 128), k = ix4 b' c' p q := ⟨k 0, k 1, k 2, k 3, eq_ix4 k⟩
    obtain ⟨-, -, e2, e3⟩ := (key _ _ _ _).mp hk
    omega

/-- The reference's index words: twice the position, wrapped if it were negative, which it is not. -/
theorem word (p : Fin 128) :
    (Scalar.select (IntOp.cmpi .slt (IntOp.addi 0#32 (IntOp.muli 2#32 (BitVec.ofNat 32 p.val))) 0#32)
      (IntOp.addi (IntOp.addi 0#32 (IntOp.muli 2#32 (BitVec.ofNat 32 p.val))) 256#32)
      (IntOp.addi 0#32 (IntOp.muli 2#32 (BitVec.ofNat 32 p.val)))).toInt = 2 * (p.val : Int) := by
  revert p
  decide +kernel

variable (m : (ℓ : Loc nD τ sig) → Buf (Elt F) ℓ) (ρ : Dev nD → PrngReg)

/-- The run: the result is the argument upsampled, and the argument is unchanged. -/
theorem run : θ_run defs (onTc (τ := τ) (main (F := F))) ⟨m, fun _ => 0, ρ⟩ fun r => ∀ c : Dev nD,
      (r.2.mem ((c : Thread nD τ).loc main_v28) : S32x64x256x256.Idx → F .f32)
        = upsampled (Scalar.ofBits .f32 0x00000000#32) (m ((c : Thread nD τ).loc main_arg0) : S32x64x128x128.Idx → F .f32)
      ∧ r.2.mem ((c : Thread nD τ).loc main_arg0) = m ((c : Thread nD τ).loc main_arg0) := by
  refine (θ_run defs _ _).mono (fun _ h c => ⟨(h c).1.trans (scatter_eq _ _ (fun i => rfl) _ (fun p q => ?_) (fun p q => ?_) _), (h c).2⟩) (Value.run m ρ)
  · pointwise []
    exact word p
  · pointwise []
    exact word q

end Cert.ReferenceIdeal.Upsample

end
-- ==== Proof.lean ====
/-
  The claims, put together. The kernel (`Kernel`), its reading over the extended reals (`KernelIdeal`) and the reference
  (`ReferenceIdeal`) run, leave their argument as it was and all their counters at zero; and the kernel and the reference
  end with the same result. Both results are the argument upsampled (Proof/Spread.lean): Proof/KernelValue.lean says it of
  the kernel, with Proof/Block.lean for one block, and Proof/ReferenceValue.lean of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its argument ends unchanged, and it declares no counter. -/
theorem quiescent_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Upsample.run (F := Ideal) m g)

/-- From equal arguments the kernel and the reference end with equal results: the argument upsampled. -/
theorem algebraic : Cert.algebraic_KernelIdeal_ReferenceIdeal := by
  intro m g m' g' _ hagree
  refine ⟨fun c => Cert.Upsample.upsampled (Scalar.ofBits (F := Ideal) .f32 0x00000000#32)
    (m ((c.tc : Thread Cert.KernelIdeal.nD Cert.KernelIdeal.τ).loc Cert.KernelIdeal.main_arg0)),
    Cert.KernelIdeal.Upsample.run (F := Ideal) m g, ?_⟩
  refine (θ_run Cert.ReferenceIdeal.defs _ _).mono (fun r h c => ⟨(h c).1.trans ?_, (h c).2⟩)
    (Cert.ReferenceIdeal.Upsample.run (F := Ideal) m' g')
  exact congrArg (Cert.Upsample.upsampled _) (hagree c)

/-- All the claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, quiescent_reference, trivial, algebraic⟩

end Cert.Proof

end
